-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v1)) (v2 : (c : Dev Cert.KernelIdeal.nD) → Buf (Elt Ideal) ((c.tc : Thread Cert.KernelIdeal.nD Cert.KernelIdeal.τ).loc Cert.KernelIdeal.main_v1)) (v3 : (c : Dev Cert.KernelIdeal.nD) → Buf (Elt Ideal) ((c.tc : Thread Cert.KernelIdeal.nD Cert.KernelIdeal.τ).loc Cert.KernelIdeal.main_v1)) (v4 : (c : Dev Cert.KernelIdeal.nD) → Buf (Elt Ideal) ((c.tc : Thread Cert.KernelIdeal.nD Cert.KernelIdeal.τ).loc Cert.KernelIdeal.main_v1)) (v5 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_v1) = v2 c
          ∧ r.2.mem ((c.tc : Thread Cert.KernelIdeal.nD Cert.KernelIdeal.τ).loc Cert.KernelIdeal.main_v1) = v3 c
          ∧ r.2.mem ((c.tc : Thread Cert.KernelIdeal.nD Cert.KernelIdeal.τ).loc Cert.KernelIdeal.main_v1) = v4 c
          ∧ r.2.mem ((c.tc : Thread Cert.KernelIdeal.nD Cert.KernelIdeal.τ).loc Cert.KernelIdeal.main_v1) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v75) = v2 c
          ∧ r.2.mem ((c.tc : Thread Cert.ReferenceIdeal.nD Cert.ReferenceIdeal.τ).loc Cert.ReferenceIdeal.main_v76) = v3 c
          ∧ r.2.mem ((c.tc : Thread Cert.ReferenceIdeal.nD Cert.ReferenceIdeal.τ).loc Cert.ReferenceIdeal.main_v69) = v4 c
          ∧ r.2.mem ((c.tc : Thread Cert.ReferenceIdeal.nD Cert.ReferenceIdeal.τ).loc Cert.ReferenceIdeal.main_v68) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x255x76x76 : Shape := ⟨4, ![16, 255, 76, 76]⟩
abbrev S50x6 : Shape := ⟨2, ![50, 6]⟩
abbrev S16x17328x85 : Shape := ⟨3, ![16, 17328, 85]⟩
abbrev S1x85x76x76 : Shape := ⟨4, ![1, 85, 76, 76]⟩
abbrev S1x2888x85 : Shape := ⟨3, ![1, 2888, 85]⟩
abbrev S85x76x76 : Shape := ⟨3, ![85, 76, 76]⟩
abbrev S85x38x76 : Shape := ⟨3, ![85, 38, 76]⟩
abbrev S1x38x76 : Shape := ⟨3, ![1, 38, 76]⟩
abbrev S81x38x76 : Shape := ⟨3, ![81, 38, 76]⟩
abbrev S85x2888 : Shape := ⟨2, ![85, 2888]⟩
abbrev S2888x85 : Shape := ⟨2, ![2888, 85]⟩
abbrev S_ : Shape := ⟨0, ![]⟩
abbrev S1 : Shape := ⟨1, ![1]⟩

abbrev nBuf : Space → Nat
  | .hbm => 5
  | .vmem => 4
  | .smem => 0
  | _ => 0

abbrev bufTy : (tb : Table) → Fin (tcTables nBuf tb) → BufTy
  | .hbm, ⟨0, _⟩ => ⟨S16x255x76x76, .f32⟩
  | .hbm, ⟨1, _⟩ => ⟨S50x6, .f32⟩
  | .hbm, ⟨2, _⟩ => ⟨S16x17328x85, .f32⟩
  | .hbm, ⟨3, _⟩ => ⟨S_, .f32⟩
  | .hbm, ⟨4, _⟩ => ⟨S1, .f32⟩
  | .local _ .vmem, ⟨0, _⟩ => ⟨S1x85x76x76, .f32⟩
  | .local _ .vmem, ⟨1, _⟩ => ⟨S1x85x76x76, .f32⟩
  | .local _ .vmem, ⟨2, _⟩ => ⟨S1x2888x85, .f32⟩
  | .local _ .vmem, ⟨3, _⟩ => ⟨S1x2888x85, .f32⟩
  | _, _ => ⟨S16x255x76x76, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨3, ![16, 3, 2], ![false, false, false]⟩

def k0_cond1 (i : grid0.Coords) : BitVec 1 :=
  let arg2 : BitVec 32 := BitVec.ofNat 32 (i 2).val
  let c0_i32 : BitVec 32 := 0#32
  let v2 : BitVec 1 := Scalar.cmpi .eq arg2 c0_i32
  let v3 : BitVec 32 := Scalar.extui v2
  let c0_i32_3 : BitVec 32 := 0#32
  let v4 : BitVec 1 := Scalar.cmpi .ne v3 c0_i32_3
  v4

def k0_cond2 (i : grid0.Coords) : BitVec 1 :=
  let arg2 : BitVec 32 := BitVec.ofNat 32 (i 2).val
  let c1_i32 : BitVec 32 := 1#32
  let v5 : BitVec 1 := Scalar.cmpi .eq arg2 c1_i32
  let v6 : BitVec 32 := Scalar.extui v5
  let c0_i32_4 : BitVec 32 := 0#32
  let v7 : BitVec 1 := Scalar.cmpi .ne v6 c0_i32_4
  v7

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x85x76x76 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2888x85 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]
-- ==== ReferenceIdeal.lean ====
abbrev S16x255x76x76 : Shape := ⟨4, ![16, 255, 76, 76]⟩
abbrev S50x6 : Shape := ⟨2, ![50, 6]⟩
abbrev S3 : Shape := ⟨1, ![3]⟩
abbrev S16x3x85x76x76 : Shape := ⟨5, ![16, 3, 85, 76, 76]⟩
abbrev S16x3x76x76x85 : Shape := ⟨5, ![16, 3, 76, 76, 85]⟩
abbrev S16x3x76x76x1 : Shape := ⟨5, ![16, 3, 76, 76, 1]⟩
abbrev S16x3x76x76 : Shape := ⟨4, ![16, 3, 76, 76]⟩
abbrev S_ : Shape := ⟨0, ![]⟩
abbrev S16x3x76x76x80 : Shape := ⟨5, ![16, 3, 76, 76, 80]⟩
abbrev S76 : Shape := ⟨1, ![76]⟩
abbrev S1x1x1x76 : Shape := ⟨4, ![1, 1, 1, 76]⟩
abbrev S1x1x76x1 : Shape := ⟨4, ![1, 1, 76, 1]⟩
abbrev S1x3x1x1 : Shape := ⟨4, ![1, 3, 1, 1]⟩
abbrev S16x17328x85 : Shape := ⟨3, ![16, 17328, 85]⟩
abbrev S1 : Shape := ⟨1, ![1]⟩

abbrev nBuf : Space → Nat
  | .hbm => 94
  | .vmem => 0
  | .smem => 0
  | _ => 0

abbrev bufTy : (tb : Table) → Fin (tcTables nBuf tb) → BufTy
  | .hbm, ⟨0, _⟩ => ⟨S16x255x76x76, .f32⟩
  | .hbm, ⟨1, _⟩ => ⟨S50x6, .f32⟩
  | .hbm, ⟨2, _⟩ => ⟨S3, .f32⟩
  | .hbm, ⟨3, _⟩ => ⟨S3, .f32⟩
  | .hbm, ⟨4, _⟩ => ⟨S16x3x85x76x76, .f32⟩
  | .hbm, ⟨5, _⟩ => ⟨S16x3x76x76x85, .f32⟩
  | .hbm, ⟨6, _⟩ => ⟨S16x3x76x76x1, .f32⟩
  | .hbm, ⟨7, _⟩ => ⟨S16x3x76x76, .f32⟩
  | .hbm, ⟨8, _⟩ => ⟨S16x3x76x76, .f32⟩
  | .hbm, ⟨9, _⟩ => ⟨S16x3x76x76, .f32⟩
  | .hbm, ⟨10, _⟩ => ⟨S_, .f32⟩
  | .hbm, ⟨11, _⟩ => ⟨S16x3x76x76, .f32⟩
  | .hbm, ⟨12, _⟩ => ⟨S16x3x76x76, .f32⟩
  | .hbm, ⟨13, _⟩ => ⟨S_, .f32⟩
  | .hbm, ⟨14, _⟩ => ⟨S16x3x76x76, .f32⟩
  | .hbm, ⟨15, _⟩ => ⟨S16x3x76x76, .f32⟩
  | .hbm, ⟨16, _⟩ => ⟨S16x3x76x76x1, .f32⟩
  | .hbm, ⟨17, _⟩ => ⟨S16x3x76x76, .f32⟩
  | .hbm, ⟨18, _⟩ => ⟨S16x3x76x76, .f32⟩
  | .hbm, ⟨19, _⟩ => ⟨S16x3x76x76, .f32⟩
  | .hbm, ⟨20, _⟩ => ⟨S_, .f32⟩
  | .hbm, ⟨21, _⟩ => ⟨S16x3x76x76, .f32⟩
  | .hbm, ⟨22, _⟩ => ⟨S16x3x76x76, .f32⟩
  | .hbm, ⟨23, _⟩ => ⟨S_, .f32⟩
  | .hbm, ⟨24, _⟩ => ⟨S16x3x76x76, .f32⟩
  | .hbm, ⟨25, _⟩ => ⟨S16x3x76x76, .f32⟩
  | .hbm, ⟨26, _⟩ => ⟨S16x3x76x76x1, .f32⟩
  | .hbm, ⟨27, _⟩ => ⟨S16x3x76x76, .f32⟩
  | .hbm, ⟨28, _⟩ => ⟨S16x3x76x76x1, .f32⟩
  | .hbm, ⟨29, _⟩ => ⟨S16x3x76x76, .f32⟩
  | .hbm, ⟨30, _⟩ => ⟨S16x3x76x76x1, .f32⟩
  | .hbm, ⟨31, _⟩ => ⟨S16x3x76x76, .f32⟩
  | .hbm, ⟨32, _⟩ => ⟨S16x3x76x76, .f32⟩
  | .hbm, ⟨33, _⟩ => ⟨S16x3x76x76, .f32⟩
  | .hbm, ⟨34, _⟩ => ⟨S_, .f32⟩
  | .hbm, ⟨35, _⟩ => ⟨S16x3x76x76, .f32⟩
  | .hbm, ⟨36, _⟩ => ⟨S16x3x76x76, .f32⟩
  | .hbm, ⟨37, _⟩ => ⟨S_, .f32⟩
  | .hbm, ⟨38, _⟩ => ⟨S16x3x76x76, .f32⟩
  | .hbm, ⟨39, _⟩ => ⟨S16x3x76x76, .f32⟩
  | .hbm, ⟨40, _⟩ => ⟨S16x3x76x76x80, .f32⟩
  | .hbm, ⟨41, _⟩ => ⟨S16x3x76x76x80, .f32⟩
  | .hbm, ⟨42, _⟩ => ⟨S16x3x76x76x80, .f32⟩
  | .hbm, ⟨43, _⟩ => ⟨S_, .f32⟩
  | .hbm, ⟨44, _⟩ => ⟨S16x3x76x76x80, .f32⟩
  | .hbm, ⟨45, _⟩ => ⟨S16x3x76x76x80, .f32⟩
  | .hbm, ⟨46, _⟩ => ⟨S_, .f32⟩
  | .hbm, ⟨47, _⟩ => ⟨S16x3x76x76x80, .f32⟩
  | .hbm, ⟨48, _⟩ => ⟨S16x3x76x76x80, .f32⟩
  | .hbm, ⟨49, _⟩ => ⟨S76, .f32⟩
  | .hbm, ⟨50, _⟩ => ⟨S1x1x1x76, .f32⟩
  | .hbm, ⟨51, _⟩ => ⟨S76, .f32⟩
  | .hbm, ⟨52, _⟩ => ⟨S1x1x76x1, .f32⟩
  | .hbm, ⟨53, _⟩ => ⟨S1x3x1x1, .f32⟩
  | .hbm, ⟨54, _⟩ => ⟨S1x3x1x1, .f32⟩
  | .hbm, ⟨55, _⟩ => ⟨S16x3x76x76, .f32⟩
  | .hbm, ⟨56, _⟩ => ⟨S16x3x76x76, .f32⟩
  | .hbm, ⟨57, _⟩ => ⟨S_, .f32⟩
  | .hbm, ⟨58, _⟩ => ⟨S16x3x76x76, .f32⟩
  | .hbm, ⟨59, _⟩ => ⟨S16x3x76x76, .f32⟩
  | .hbm, ⟨60, _⟩ => ⟨S16x3x76x76, .f32⟩
  | .hbm, ⟨61, _⟩ => ⟨S16x3x76x76, .f32⟩
  | .hbm, ⟨62, _⟩ => ⟨S_, .f32⟩
  | .hbm, ⟨63, _⟩ => ⟨S16x3x76x76, .f32⟩
  | .hbm, ⟨64, _⟩ => ⟨S16x3x76x76, .f32⟩
  | .hbm, ⟨65, _⟩ => ⟨S16x3x76x76, .f32⟩
  | .hbm, ⟨66, _⟩ => ⟨S16x3x76x76, .f32⟩
  | .hbm, ⟨67, _⟩ => ⟨S16x3x76x76, .f32⟩
  | .hbm, ⟨68, _⟩ => ⟨S_, .f32⟩
  | .hbm, ⟨69, _⟩ => ⟨S16x3x76x76, .f32⟩
  | .hbm, ⟨70, _⟩ => ⟨S16x3x76x76, .f32⟩
  | .hbm, ⟨71, _⟩ => ⟨S16x3x76x76, .f32⟩
  | .hbm, ⟨72, _⟩ => ⟨S16x3x76x76, .f32⟩
  | .hbm, ⟨73, _⟩ => ⟨S16x3x76x76, .f32⟩
  | .hbm, ⟨74, _⟩ => ⟨S_, .f32⟩
  | .hbm, ⟨75, _⟩ => ⟨S16x3x76x76, .f32⟩
  | .hbm, ⟨76, _⟩ => ⟨S16x3x76x76, .f32⟩
  | .hbm, ⟨77, _⟩ => ⟨S16x3x76x76x1, .f32⟩
  | .hbm, ⟨78, _⟩ => ⟨S16x3x76x76x1, .f32⟩
  | .hbm, ⟨79, _⟩ => ⟨S16x3x76x76x1, .f32⟩
  | .hbm, ⟨80, _⟩ => ⟨S16x3x76x76x1, .f32⟩
  | .hbm, ⟨81, _⟩ => ⟨S16x3x76x76x1, .f32⟩
  | .hbm, ⟨82, _⟩ => ⟨S16x3x76x76x85, .f32⟩
  | .hbm, ⟨83, _⟩ => ⟨S16x17328x85, .f32⟩
  | .hbm, ⟨84, _⟩ => ⟨S_, .f32⟩
  | .hbm, ⟨85, _⟩ => ⟨S1, .f32⟩
  | .hbm, ⟨86, _⟩ => ⟨S1, .f32⟩
  | .hbm, ⟨87, _⟩ => ⟨S1, .f32⟩
  | .hbm, ⟨88, _⟩ => ⟨S1, .f32⟩
  | .hbm, ⟨89, _⟩ => ⟨S1, .f32⟩
  | .hbm, ⟨90, _⟩ => ⟨S1, .f32⟩
  | .hbm, ⟨91, _⟩ => ⟨S1, .f32⟩
  | .hbm, ⟨92, _⟩ => ⟨S1, .f32⟩
  | .hbm, ⟨93, _⟩ => ⟨S1, .f32⟩
  | _, _ => ⟨S16x255x76x76, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_7 : Ref sig .tc := ⟨.hbm, 43, rfl⟩
abbrev main_v33 : Ref sig .tc := ⟨.hbm, 44, rfl⟩
abbrev main_v34 : Ref sig .tc := ⟨.hbm, 45, rfl⟩
abbrev main_cst_8 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_9 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_10 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_11 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_12 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_13 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩

abbrev nD : Nat := 1
abbrev τ : Topo := Topo.v7x

variable {F : FTy → Type} [FloatOps F]
-- ==== Proof.Decode.lean ====
/-
  One entry of the detection layer's output, as a function on the extended reals: what both programs are shown to
  compute. Nothing here mentions a program; the arguments are the raw prediction, the anchor, the channel and the cell.
-/
module

public import Idealize.ShloMosaic.PureOps.Ideal

@[expose] public section

noncomputable section

namespace Cert.Yolo

open Idealize.ShloMosaic

/-- The width of anchor `a`, in pixels. -/
def anchorW (a : ℕ) : EReal := if a = 0 then ((10 : ℝ) : EReal) else if a = 1 then ((16 : ℝ) : EReal) else ((33 : ℝ) : EReal)

/-- The height of anchor `a`, in pixels. -/
def anchorH (a : ℕ) : EReal := if a = 0 then ((13 : ℝ) : EReal) else if a = 1 then ((30 : ℝ) : EReal) else ((23 : ℝ) : EReal)

/-- The decoded entry of a raw prediction `v` at channel `ch` of anchor `a`, in row `gy` and column `gx` of the grid of
    cells, each 8 pixels wide and high: channels 0 and 1 are the box's centre, 2 and 3 its extents, and the others the
    confidence and the class scores. -/
def decode (v : EReal) (a ch gy gx : ℕ) : EReal :=
  if ch = 0 then (Ideal.logistic v + ((gx : ℝ) : EReal)) * ((8 : ℝ) : EReal)
  else if ch = 1 then (Ideal.logistic v + ((gy : ℝ) : EReal)) * ((8 : ℝ) : EReal)
  else if ch = 2 then Ideal.exp v * anchorW a
  else if ch = 3 then Ideal.exp v * anchorH a
  else Ideal.logistic v

/-- Each channel is one of the first four or one of the rest. -/
theorem channels (ch : Fin 85) : ch = 0 ∨ ch = 1 ∨ ch = 2 ∨ ch = 3 ∨ 4 ≤ ch.val := by
  have h := ch.isLt
  by_cases h4 : 4 ≤ ch.val
  · exact .inr (.inr (.inr (.inr h4)))
  · have : ch.val = 0 ∨ ch.val = 1 ∨ ch.val = 2 ∨ ch.val = 3 := by omega
    rcases this with e | e | e | e
    · exact .inl (Fin.ext e)
    · exact .inr (.inl (Fin.ext e))
    · exact .inr (.inr (.inl (Fin.ext e)))
    · exact .inr (.inr (.inr (.inl (Fin.ext e))))

/-- A channel after the first four is decoded by the logistic function alone. -/
theorem decode_rest (v : EReal) (a ch gy gx : ℕ) (h : 4 ≤ ch) : decode v a ch gy gx = Ideal.logistic v := by
  unfold decode
  rw [if_neg (by omega), if_neg (by omega), if_neg (by omega), if_neg (by omega)]

end Cert.Yolo

end
-- ==== Proof.Scalars.lean ====
/-
  The scalars that the two programs share, read as extended reals: the literals, the coordinates of an iota, and the
  selection of an anchor's extent by its number.
-/
module

public import proofs.«01_k».proof.Proof.Decode
public import Idealize.ShloMosaic.Lib.Pointwise

@[expose] public section

noncomputable section

namespace Cert.Yolo

open Idealize.ShloMosaic

/-! ### The literals -/

theorem lit_one : Ideal.ofBits .f32 0x3F800000#32 = 1 := by
  simp [Ideal.ofBits, Ideal.ieee, -EReal.coe_mul]; norm_num
theorem lit_8 : Ideal.ofBits .f32 0x41000000#32 = ((8 : ℝ) : EReal) := by
  simp [Ideal.ofBits, Ideal.ieee, -EReal.coe_mul]; norm_num
theorem lit_38 : Ideal.ofBits .f32 0x42180000#32 = ((38 : ℝ) : EReal) := by
  simp [Ideal.ofBits, Ideal.ieee, -EReal.coe_mul]; norm_num
theorem lit_10 : Ideal.ofBits .f32 0x41200000#32 = ((10 : ℝ) : EReal) := by
  simp [Ideal.ofBits, Ideal.ieee, -EReal.coe_mul]; norm_num
theorem lit_16 : Ideal.ofBits .f32 0x41800000#32 = ((16 : ℝ) : EReal) := by
  simp [Ideal.ofBits, Ideal.ieee, -EReal.coe_mul]; norm_num
theorem lit_33 : Ideal.ofBits .f32 0x42040000#32 = ((33 : ℝ) : EReal) := by
  simp [Ideal.ofBits, Ideal.ieee, -EReal.coe_mul]; norm_num
theorem lit_13 : Ideal.ofBits .f32 0x41500000#32 = ((13 : ℝ) : EReal) := by
  simp [Ideal.ofBits, Ideal.ieee, -EReal.coe_mul]; norm_num
theorem lit_30 : Ideal.ofBits .f32 0x41F00000#32 = ((30 : ℝ) : EReal) := by
  simp [Ideal.ofBits, Ideal.ieee, -EReal.coe_mul]; norm_num
theorem lit_23 : Ideal.ofBits .f32 0x41B80000#32 = ((23 : ℝ) : EReal) := by
  simp [Ideal.ofBits, Ideal.ieee, -EReal.coe_mul]; norm_num

/-! ### Coordinates -/

/-- A coordinate of a grid of cells, as a 32-bit word turned into a float, is the number itself. -/
theorem coord (n : ℕ) (h : n < 76) :
    (FloatOps.sitofp (F := Ideal) FTy.f32 (BitVec.ofNat 32 n) : Ideal .f32) = ((n : ℝ) : EReal) := by
  show (((BitVec.ofNat 32 n).toInt : ℝ) : EReal) = _
  have e : (BitVec.ofNat 32 n).toInt = (n : ℤ) := by
    rw [BitVec.toInt_ofNat', Int.bmod_eq_of_le] <;> omega
  rw [e]; norm_cast

/-- The lower half of a grid counts its rows from 38. -/
theorem coord_lower (n : ℕ) : ((n : ℝ) : EReal) + ((38 : ℝ) : EReal) = (((38 + n : ℕ) : ℝ) : EReal) := by
  rw [← EReal.coe_add]; congr 1; push_cast; ring

/-! ### The anchors -/

/-- The reference's widths in cells, by 8 pixels a cell, are the widths in pixels. -/
theorem widths (a : Fin 3) (l : Fin 3 → BitVec 32) (h0 : l 0 = 0x3FA00000#32) (h1 : l 1 = 0x40000000#32)
    (h2 : l 2 = 0x40840000#32) : Ideal.ofBits .f32 (l a) * ((8 : ℝ) : EReal) = anchorW a.val := by
  have e0 : Ideal.ofBits .f32 0x3FA00000#32 = ((1.25 : ℝ) : EReal) := by
    simp [Ideal.ofBits, Ideal.ieee, -EReal.coe_mul]; norm_num
  have e1 : Ideal.ofBits .f32 0x40000000#32 = ((2 : ℝ) : EReal) := by
    simp [Ideal.ofBits, Ideal.ieee, -EReal.coe_mul]; norm_num
  have e2 : Ideal.ofBits .f32 0x40840000#32 = ((4.125 : ℝ) : EReal) := by
    simp [Ideal.ofBits, Ideal.ieee, -EReal.coe_mul]; norm_num
  fin_cases a <;> simp only [anchorW, h0, h1, h2, e0, e1, e2, Fin.zero_eta, Fin.mk_one, Fin.reduceFinMk, ← EReal.coe_mul] <;> norm_num

/-- The reference's heights in cells, by 8 pixels a cell, are the heights in pixels. -/
theorem heights (a : Fin 3) (l : Fin 3 → BitVec 32) (h0 : l 0 = 0x3FD00000#32) (h1 : l 1 = 0x40700000#32)
    (h2 : l 2 = 0x40380000#32) : Ideal.ofBits .f32 (l a) * ((8 : ℝ) : EReal) = anchorH a.val := by
  have e0 : Ideal.ofBits .f32 0x3FD00000#32 = ((1.625 : ℝ) : EReal) := by
    simp [Ideal.ofBits, Ideal.ieee, -EReal.coe_mul]; norm_num
  have e1 : Ideal.ofBits .f32 0x40700000#32 = ((3.75 : ℝ) : EReal) := by
    simp [Ideal.ofBits, Ideal.ieee, -EReal.coe_mul]; norm_num
  have e2 : Ideal.ofBits .f32 0x40380000#32 = ((2.875 : ℝ) : EReal) := by
    simp [Ideal.ofBits, Ideal.ieee, -EReal.coe_mul]; norm_num
  fin_cases a <;> simp only [anchorH, h0, h1, h2, e0, e1, e2, Fin.zero_eta, Fin.mk_one, Fin.reduceFinMk, ← EReal.coe_mul] <;> norm_num

/-- Of three values the one that an anchor's number selects, by two comparisons of words. -/
theorem select_anchor (a : ℕ) (ha : a < 3) (u v w : EReal) :
    Scalar.select (Scalar.cmpi .eq (BitVec.ofNat 32 a) 0#32) u
        (Scalar.select (Scalar.cmpi .eq (BitVec.ofNat 32 a) 1#32) v w)
      = if a = 0 then u else if a = 1 then v else w := by
  interval_cases a <;> rfl

end Cert.Yolo

end
-- ==== Proof.Block.lean ====
/-
  What one grid point of the kernel stores, read at an entry: the payloads of the two branches of the body (the upper
  and the lower 38 rows of the grid of cells) as `decode` of the entries of the input block.
-/
module

public import proofs.«01_k».proof.Proof.Scalars
public import proofs.«01_k».proof.Proof.Gen.KernelIdeal.Skeleton

@[expose] public section

set_option maxRecDepth 16384

noncomputable section

namespace Cert.KernelIdeal.Block

open Idealize.ShloMosaic Cert.KernelIdeal Cert.KernelIdeal.Gen Cert.Yolo

/-- The upper half's store: entry `(s, ch)` is the decoded entry of the block at channel `ch`, row `s / 76` and column
    `s % 76`. -/
theorem upper (i : grid0.Coords) (x : Vec Ideal S1x85x76x76 .f32) (s : Fin 2888) (ch : Fin 85) :
    k0_pay2 i x (ix3 0 s ch)
      = decode (x (ix4 0 ch ⟨s.val / 76, by omega⟩ ⟨s.val % 76, by omega⟩)) (i 1).val ch.val (s.val / 76) (s.val % 76) := by
  have ha : (i 1).val < 3 := (i 1).isLt
  have ex := coord (s.val % 76) (by omega)
  have ey := coord (s.val / 76) (by omega)
  rcases channels ch with rfl | rfl | rfl | rfl | h4
  · pointwise [k0_pay2, k0_pay1]
    simp only [ex, lit_8]
    rfl
  · pointwise [k0_pay2, k0_pay1]
    simp only [ey, lit_8]
    rfl
  · pointwise [k0_pay2, k0_pay1]
    simp only [select_anchor _ ha, lit_10, lit_16, lit_33]
    rfl
  · pointwise [k0_pay2, k0_pay1]
    simp only [select_anchor _ ha, lit_13, lit_30, lit_23]
    rfl
  · have e : (⟨4 + (ch.val - 1 - 1 - 1 - 1), by omega⟩ : Fin 85) = ch := Fin.ext (by dsimp only; omega)
    rw [decode_rest _ _ _ _ _ h4]
    pointwise [k0_pay2, k0_pay1]
    rw [dif_neg (by omega), dif_neg (by omega), dif_neg (by omega), dif_neg (by omega)]
    exact congrArg (fun k => Ideal.logistic (x (ix4 0 k _ _))) e

/-- The lower half's store: the same of the rows from 38 on. -/
theorem lower (i : grid0.Coords) (x : Vec Ideal S1x85x76x76 .f32) (s : Fin 2888) (ch : Fin 85) :
    k0_pay3 i x (ix3 0 s ch)
      = decode (x (ix4 0 ch ⟨38 + s.val / 76, by omega⟩ ⟨s.val % 76, by omega⟩)) (i 1).val ch.val
          (38 + s.val / 76) (s.val % 76) := by
  have ha : (i 1).val < 3 := (i 1).isLt
  have ex := coord (s.val % 76) (by omega)
  have ey := coord (s.val / 76) (by omega)
  rcases channels ch with rfl | rfl | rfl | rfl | h4
  · pointwise [k0_pay3, k0_pay1]
    simp only [ex, lit_8]
    rfl
  · pointwise [k0_pay3, k0_pay1]
    simp only [ey, lit_8, lit_38, coord_lower]
    rfl
  · pointwise [k0_pay3, k0_pay1]
    simp only [select_anchor _ ha, lit_10, lit_16, lit_33]
    rfl
  · pointwise [k0_pay3, k0_pay1]
    simp only [select_anchor _ ha, lit_13, lit_30, lit_23]
    rfl
  · have e : (⟨4 + (ch.val - 1 - 1 - 1 - 1), by omega⟩ : Fin 85) = ch := Fin.ext (by dsimp only; omega)
    rw [decode_rest _ _ _ _ _ h4]
    pointwise [k0_pay3, k0_pay1]
    rw [dif_neg (by omega), dif_neg (by omega), dif_neg (by omega), dif_neg (by omega)]
    exact congrArg (fun k => Ideal.logistic (x (ix4 0 k _ _))) e

end Cert.KernelIdeal.Block

end
-- ==== Proof.Array.lean ====
/-
  The kernel's result arrays at the end of a run. Each grid point `t` writes one block of 2888 rows, half of one anchor's
  grid of cells in one image; the blocks tile the first result, so it ends as the decoded prediction entry by entry.
  The other results are one array of a single zero, written after the grid.
-/
module

public import proofs.«01_k».proof.Proof.Block
public import proofs.«01_k».proof.Proof.Gen.KernelIdeal.Frame
public import Idealize.ShloMosaic.Lib.Pipeline.Value
public import Idealize.ShloMosaic.Lib.StableHlo.Run

@[expose] public section

set_option maxRecDepth 16384

noncomputable section

namespace Cert.KernelIdeal.Array

open Idealize.ShloMosaic Idealize.ShloMosaic.TcCoe Idealize.SL.Sem Cert.KernelIdeal Cert.KernelIdeal.Gen Cert.Yolo
open Idealize.ShloMosaic.Pipeline (Dat)

variable (m : (ℓ : Loc nD τ sig) → Buf (Elt Ideal) ℓ) (ρ : Dev nD → PrngReg)

/-! ### What a grid point leaves in its output block -/

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- At a point of an upper half the block is the upper payload of the loaded block. -/
theorem out_A (c : Dev nD) (i : grid0.Coords) (a3 : Memref sig .tc .vmem S1x85x76x76 .f32) (h3 : a3.IsWhole)
    (a4 : Memref sig .tc .vmem S1x2888x85 .f32) (h4 : a4.IsWhole) (hc0 : cond0_0 i) (hc1 : ¬cond0_1 i)
    (x : Vec Ideal S1x85x76x76 .f32) : out0_A_1 c i a3 h3 a4 h4 hc0 hc1 x = k0_pay2 i x := by
  unfold out0_A_1
  rw [View.read_writes_eq_canon _ _ _ (cover0_A_1 c i a3 h3 a4 h4 hc0 hc1 x)]
  unfold kernelRun0_A
  dsimp only
  sl_unfold_words
  rw [View.canon_unit_zero hz3]
  simp only [View.readAt_eq_ld, h3.read_unread, View.ld_unit_zero (S := S1x85x76x76) hz4]

/-- At a point of a lower half the block is the lower payload of the loaded block. -/
theorem out_B (c : Dev nD) (i : grid0.Coords) (a3 : Memref sig .tc .vmem S1x85x76x76 .f32) (h3 : a3.IsWhole)
    (a4 : Memref sig .tc .vmem S1x2888x85 .f32) (h4 : a4.IsWhole) (hc0 : ¬cond0_0 i) (hc1 : cond0_1 i)
    (x : Vec Ideal S1x85x76x76 .f32) : out0_B_1 c i a3 h3 a4 h4 hc0 hc1 x = k0_pay3 i x := by
  unfold out0_B_1
  rw [View.read_writes_eq_canon _ _ _ (cover0_B_1 c i a3 h3 a4 h4 hc0 hc1 x)]
  unfold kernelRun0_B
  dsimp only
  sl_unfold_words
  rw [View.canon_unit_zero hz3]
  simp only [View.readAt_eq_ld, h3.read_unread, View.ld_unit_zero (S := S1x85x76x76) hz4]

/-! ### Where the blocks lie -/

/-- The block numbers of the input window at point `t`. -/
theorem index0 : ∀ t : Fin grid0.N, win0_0.index t 0 = t.val / 6 ∧ win0_0.index t 1 = t.val / 2 % 3
    ∧ win0_0.index t 2 = 0 ∧ win0_0.index t 3 = 0 := by decide +kernel

/-- The block numbers of the output window at point `t`. -/
theorem index1 : ∀ t : Fin grid0.N, win0_1.index t 0 = t.val / 6 ∧ win0_1.index t 1 = t.val % 6
    ∧ win0_1.index t 2 = 0 := by decide +kernel

theorem anchor_val (t : Fin grid0.N) : (grid0.coords t 1).val = t.val / 2 % 3 :=
  Pipeline.Grid.coords_val t 1 (by decide) rfl

/-- The argument, as an array of extended reals. -/
abbrev arg (c : Dev nD) : Vec Ideal S16x255x76x76 .f32 := m ((c : Thread nD τ).loc main_arg0)

/-- The input block at point `t`, read at an index, is the argument at image `t / 6` and the anchor's channel. -/
theorem iblk_apply (c : Dev nD) (t : Fin cfg0.N) (ch : Fin 85) (gy gx : Fin 76) (b : Fin 16) (k : Fin 255)
    (hb : b.val = t.val / 6) (hk : k.val = t.val / 2 % 3 * 85 + ch.val) :
    (iblk m c 0 t : Vec Ideal S1x85x76x76 .f32) (ix4 0 ch gy gx) = arg m c (ix4 b k gy gx) := by
  obtain ⟨e0, e1, e2, e3⟩ := index0 t
  unfold iblk
  rw [View.read_apply]
  show m (c.tc.loc main_arg0) _ = m (c.tc.loc main_arg0) _
  congr 1
  funext a
  apply Fin.ext
  match a with
  | ⟨0, _⟩ => show win0_0.index t 0 * 1 + 1 * 0 = b.val; rw [e0]; omega
  | ⟨1, _⟩ => show win0_0.index t 1 * 85 + 1 * ch.val = k.val; rw [e1]; omega
  | ⟨2, _⟩ => show win0_0.index t 2 * 76 + 1 * gy.val = gy.val; rw [e2]; omega
  | ⟨3, _⟩ => show win0_0.index t 3 * 76 + 1 * gx.val = gx.val; rw [e3]; omega

/-! ### The first result -/

/-- The entry of the decoded prediction at image `b`, row `r` and channel `ch`. -/
def entry (c : Dev nD) (b : Fin 16) (r : Fin 17328) (ch : Fin 85) : EReal :=
  decode (arg m c (ix4 b ⟨r.val / 5776 * 85 + ch.val, by omega⟩ ⟨r.val / 76 % 76, by omega⟩ ⟨r.val % 76, by omega⟩))
    (r.val / 5776) ch.val (r.val / 76 % 76) (r.val % 76)

/-- The decoded prediction: what the first result is shown to hold. -/
def decoded (c : Dev nD) : Buf (Elt Ideal) ((c : Thread nD τ).loc main_v0) :=
  fun i : S16x17328x85.Idx => entry m c (i 0) (i 1) (i 2)

/-- What point `t` leaves in its block, entry by entry: rows `2888 (t mod 6)` on of image `t / 6`. -/
theorem outs_apply (c : Dev nD) (t : Fin cfg0.N) (s : Fin 2888) (ch : Fin 85) (b : Fin 16) (r : Fin 17328)
    (hb : b.val = t.val / 6) (hr : r.val = t.val % 6 * 2888 + s.val) :
    outsAt0 m c t.val t.isLt (ix3 0 s ch) = entry m c b r ch := by
  have hs := s.isLt
  have ea := anchor_val t
  have hx : r.val % 76 = s.val % 76 := by omega
  have ha : r.val / 5776 = t.val / 2 % 3 := by omega
  unfold entry
  by_cases h0 : t.val % 2 = 0
  · have hy : r.val / 76 % 76 = s.val / 76 := by omega
    rw [outsAt0_A m c t h0 (by omega), out_A, Block.upper,
      iblk_apply m c t ch _ _ b ⟨r.val / 5776 * 85 + ch.val, by omega⟩ hb (by dsimp only; omega), ea]
    simp only [hx, hy, ha]
  · have hy : r.val / 76 % 76 = 38 + s.val / 76 := by omega
    rw [outsAt0_B m c t h0 (by omega), out_B, Block.lower,
      iblk_apply m c t ch _ _ b ⟨r.val / 5776 * 85 + ch.val, by omega⟩ hb (by dsimp only; omega), ea]
    simp only [hx, hy, ha]

/-- What point `t` writes back is its block of the decoded prediction. -/
theorem flushed_eq (c : Dev nD) (t : Fin cfg0.N) :
    (dats m 0 c).flushed 1 t = ((cfg0.win 1).blk t).view.read (Elt Ideal) (decoded m c) := by
  have ht : t.val < 96 := Nat.lt_of_lt_of_eq t.isLt N_0
  obtain ⟨e0, e1, e2⟩ := index1 t
  show (cfg0.win 1).cut (grid0.coords t) ((dats m 0 c).after 1 t) = _
  rw [after0_1]
  funext j
  have j0 : (j 0).val < 1 := (j 0).isLt
  have j1 : (j 1).val < 2888 := (j 1).isLt
  have j2 : (j 2).val < 85 := (j 2).isLt
  have h0 : (((cfg0.win 1).blk t).view.emb j 0).val = t.val / 6 := by
    show win0_1.index t 0 * 1 + 1 * (j 0).val = _; rw [e0]; omega
  have h1 : (((cfg0.win 1).blk t).view.emb j 1).val = t.val % 6 * 2888 + (j 1).val := by
    show win0_1.index t 1 * 2888 + 1 * (j 1).val = _; rw [e1]; omega
  have h2 : ((cfg0.win 1).blk t).view.emb j 2 = (⟨(j 2).val, j2⟩ : Fin 85) := by
    apply Fin.ext; show win0_1.index t 2 * 85 + 1 * (j 2).val = (j 2).val; rw [e2]; omega
  rw [View.read_apply]
  have ej : j = ix3 (0 : Fin 1) (⟨(j 1).val, j1⟩ : Fin 2888) (⟨(j 2).val, j2⟩ : Fin 85) := by
    funext a
    apply Fin.ext
    match a with
    | ⟨0, _⟩ => show (j 0).val = 0; omega
    | ⟨1, _⟩ => rfl
    | ⟨2, _⟩ => rfl
  have := outs_apply m c t ⟨(j 1).val, j1⟩ ⟨(j 2).val, j2⟩ _ _ h0 h1
  rw [← ej, ← h2] at this
  exact this

/-- An index of the first result is in point `t`'s block when its image and row are. -/
theorem mem_blk (t : Fin cfg0.N) (i : S16x17328x85.Idx) :
    i ∈ ((cfg0.win 1).blk t).view.set ↔ (i 0).val = t.val / 6 ∧ t.val % 6 * 2888 ≤ (i 1).val
      ∧ (i 1).val < t.val % 6 * 2888 + 2888 := by
  obtain ⟨e0, e1, e2⟩ := index1 t
  show i ∈ ((View.whole main_v0).slice (win0_1.rect t)).set ↔ _
  rw [View.set_slice_whole, Rect.mem_set_unit]
  have i2 : (i 2).val < 85 := (i 2).isLt
  refine ⟨fun h => ?_, fun h a => ?_⟩
  · have g0 : win0_1.index t 0 * 1 ≤ (i 0).val ∧ (i 0).val < win0_1.index t 0 * 1 + 1 := h 0
    have g1 : win0_1.index t 1 * 2888 ≤ (i 1).val ∧ (i 1).val < win0_1.index t 1 * 2888 + 2888 := h 1
    rw [e0] at g0; rw [e1] at g1; omega
  · match a with
    | ⟨0, _⟩ => show win0_1.index t 0 * 1 ≤ (i 0).val ∧ (i 0).val < win0_1.index t 0 * 1 + 1; rw [e0]; omega
    | ⟨1, _⟩ => show win0_1.index t 1 * 2888 ≤ (i 1).val ∧ (i 1).val < win0_1.index t 1 * 2888 + 2888; rw [e1]; omega
    | ⟨2, _⟩ => show win0_1.index t 2 * 85 ≤ (i 2).val ∧ (i 2).val < win0_1.index t 2 * 85 + 85; rw [e2]; omega

/-- The blocks tile the first result. -/
theorem cover (i : S16x17328x85.Idx) :
    ∃ t : Fin cfg0.N, (cfg0.win 1).flush t = true ∧ i ∈ ((cfg0.win 1).blk t).view.set := by
  have i0 : (i 0).val < 16 := (i 0).isLt
  have i1 : (i 1).val < 17328 := (i 1).isLt
  have hN : cfg0.N = 96 := N_0
  refine ⟨⟨(i 0).val * 6 + (i 1).val / 2888, by omega⟩, flush0_1 _, ?_⟩
  rw [mem_blk]
  dsimp only
  omega

/-- So the first result ends as the decoded prediction. -/
theorem final (c : Dev nD) : (dats m 0 c).arrAt 1 cfg0.N = decoded m c :=
  (dats m 0 c).arrAt_eq_of_cover 1 (decoded m c) (fun t _ => flushed_eq m c t) cover

/-! ### The other results -/

/-- The array of a single zero: the literal broadcast. -/
abbrev zeros : FVec Ideal S1 .f32 := broadcastInDim S1 ![] bcast_S_S1 (constant (F := Ideal) S_ .f32 0x00000000#32)

/-- The operations after the grid leave the zero in `main_v1`. -/
theorem tail_v1 (c : Dev nD) :
    Pipeline.afterTail₀ cfgs (dats m) 0 (V0 m) [hostOps1] c main_v1 = (zeros : Vec Ideal S1 .f32) := by
  unfold Pipeline.afterTail₀
  simp only [List.flatten_cons, List.flatten_nil, List.append_nil, hostOps1]
  after_results_simp
  try rfl

/-- A run of the kernel, read: the first result is the decoded prediction, the others the zero, the arguments as launched. -/
theorem run : θ_run defs (onTc (τ := τ) (main (F := Ideal))) ⟨m, fun _ => 0, ρ⟩ fun r => ∀ c : Dev nD,
      r.2.mem ((c : Thread nD τ).loc main_v0) = decoded m c
      ∧ r.2.mem ((c : Thread nD τ).loc main_v1) = (zeros : Vec Ideal S1 .f32)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 1).trans (final m c),
      ((h c).2 main_v1 (Pipeline.mem_restRefs_of main_v1 (by decide) (by decide))).trans (tail_v1 m c),
      ((h c).1 0).trans ((dats m 0 c).arrAt_in 0 rfl _),
      ((h c).2 main_arg1 (Pipeline.mem_restRefs_of main_arg1 (by decide) (by decide))).trans (W_main_arg1 m (dats m) c)⟩)
    (run_main m ρ)

end Cert.KernelIdeal.Array

end
-- ==== Proof.RefRead.lean ====
/-
  The reference's first result, entry by entry: each of the six pieces that it joins along the channels, then their
  concatenation flattened over anchors, rows and columns, is the decoded entry of the raw prediction.
-/
module

public import proofs.«01_k».proof.Proof.Scalars
public import proofs.«01_k».proof.Proof.Gen.ReferenceIdeal.Run

@[expose] public section

set_option maxRecDepth 16384

noncomputable section

namespace Cert.ReferenceIdeal.Read

open Idealize.ShloMosaic Idealize.ShloMosaic.TcCoe Cert.ReferenceIdeal Cert.ReferenceIdeal.Gen Cert.Yolo

/-! ### The raw prediction -/

/-- The raw prediction laid out by batch, anchor, row, column and channel. -/
def pred (x : Vec Ideal S16x255x76x76 .f32) : Vec Ideal S16x3x76x76x85 .f32 :=
  transpose S16x3x76x76x85 [0, 1, 3, 4, 2] (shapeCast _ x shapeCasts_S16x255x76x76_S16x3x85x76x76)
    transposes_S16x3x85x76x76_S16x3x76x76x85_0_1_3_4_2

/-- Anchor `a`'s channel `ch` is channel `85 a + ch` of the argument. -/
theorem pred_apply (x : Vec Ideal S16x255x76x76 .f32) (b : Fin 16) (a : Fin 3) (gy gx : Fin 76) (ch : Fin 85) :
    pred x (ix5 b a gy gx ch) = x (ix4 b ⟨a.val * 85 + ch.val, by omega⟩ gy gx) := by
  unfold pred
  pointwise

/-! ### The pieces -/

/-- The box centres' horizontal coordinate. -/
def centreX (p : Vec Ideal S16x3x76x76x85 .f32) : Vec Ideal S16x3x76x76x1 .f32 :=
  broadcastInDim S16x3x76x76x1 ![0, 1, 2, 3] bcast_S16x3x76x76_S16x3x76x76x1_0_1_2_3 (mulf (F := Ideal) (addf (Host.divf (broadcastInDim
    S16x3x76x76 ![] bcast_S_S16x3x76x76 (constant S_ .f32 0x3F800000#32)) (addf (broadcastInDim S16x3x76x76 ![]
    bcast_S_S16x3x76x76 (constant S_ .f32 0x3F800000#32)) (Host.exp (Host.negf (shapeCast _ (extractStridedSlice
    S16x3x76x76x1 ![0, 0, 0, 0, 0] p slices_S16x3x76x76x85_S16x3x76x76x1_0_0_0_0_0)
    shapeCasts_S16x3x76x76x1_S16x3x76x76))))) (broadcastInDim S16x3x76x76 ![0, 1, 2, 3] bcast_S1x1x1x76_S16x3x76x76_0_1_2_3
    (shapeCast _ (sitofp .f32 (iotaInDim S76 32 0)) shapeCasts_S76_S1x1x1x76))) (broadcastInDim S16x3x76x76 ![]
    bcast_S_S16x3x76x76 (constant S_ .f32 0x41000000#32)))

/-- The box centres' vertical coordinate. -/
def centreY (p : Vec Ideal S16x3x76x76x85 .f32) : Vec Ideal S16x3x76x76x1 .f32 :=
  broadcastInDim S16x3x76x76x1 ![0, 1, 2, 3] bcast_S16x3x76x76_S16x3x76x76x1_0_1_2_3 (mulf (F := Ideal) (addf (Host.divf (broadcastInDim
    S16x3x76x76 ![] bcast_S_S16x3x76x76 (constant S_ .f32 0x3F800000#32)) (addf (broadcastInDim S16x3x76x76 ![]
    bcast_S_S16x3x76x76 (constant S_ .f32 0x3F800000#32)) (Host.exp (Host.negf (shapeCast _ (extractStridedSlice
    S16x3x76x76x1 ![0, 0, 0, 0, 1] p slices_S16x3x76x76x85_S16x3x76x76x1_0_0_0_0_1)
    shapeCasts_S16x3x76x76x1_S16x3x76x76))))) (broadcastInDim S16x3x76x76 ![0, 1, 2, 3] bcast_S1x1x76x1_S16x3x76x76_0_1_2_3
    (shapeCast _ (sitofp .f32 (iotaInDim S76 32 0)) shapeCasts_S76_S1x1x76x1))) (broadcastInDim S16x3x76x76 ![]
    bcast_S_S16x3x76x76 (constant S_ .f32 0x41000000#32)))

/-- The boxes' widths. -/
def width (p : Vec Ideal S16x3x76x76x85 .f32) : Vec Ideal S16x3x76x76x1 .f32 :=
  broadcastInDim S16x3x76x76x1 ![0, 1, 2, 3] bcast_S16x3x76x76_S16x3x76x76x1_0_1_2_3 (mulf (F := Ideal) (mulf (Host.exp (shapeCast _
    (extractStridedSlice S16x3x76x76x1 ![0, 0, 0, 0, 2] p slices_S16x3x76x76x85_S16x3x76x76x1_0_0_0_0_2)
    shapeCasts_S16x3x76x76x1_S16x3x76x76)) (broadcastInDim S16x3x76x76 ![0, 1, 2, 3] bcast_S1x3x1x1_S16x3x76x76_0_1_2_3
    (shapeCast _ ((fun i => FloatOps.ofBits .f32 (lit0 (S3.rowMajor i)))) shapeCasts_S3_S1x3x1x1))) (broadcastInDim
    S16x3x76x76 ![] bcast_S_S16x3x76x76 (constant S_ .f32 0x41000000#32)))

/-- The boxes' heights. -/
def height (p : Vec Ideal S16x3x76x76x85 .f32) : Vec Ideal S16x3x76x76x1 .f32 :=
  broadcastInDim S16x3x76x76x1 ![0, 1, 2, 3] bcast_S16x3x76x76_S16x3x76x76x1_0_1_2_3 (mulf (F := Ideal) (mulf (Host.exp (shapeCast _
    (extractStridedSlice S16x3x76x76x1 ![0, 0, 0, 0, 3] p slices_S16x3x76x76x85_S16x3x76x76x1_0_0_0_0_3)
    shapeCasts_S16x3x76x76x1_S16x3x76x76)) (broadcastInDim S16x3x76x76 ![0, 1, 2, 3] bcast_S1x3x1x1_S16x3x76x76_0_1_2_3
    (shapeCast _ ((fun i => FloatOps.ofBits .f32 (lit1 (S3.rowMajor i)))) shapeCasts_S3_S1x3x1x1))) (broadcastInDim
    S16x3x76x76 ![] bcast_S_S16x3x76x76 (constant S_ .f32 0x41000000#32)))

/-- The confidences. -/
def confidence (p : Vec Ideal S16x3x76x76x85 .f32) : Vec Ideal S16x3x76x76x1 .f32 :=
  broadcastInDim S16x3x76x76x1 ![0, 1, 2, 3] bcast_S16x3x76x76_S16x3x76x76x1_0_1_2_3 (Host.divf (F := Ideal) (broadcastInDim S16x3x76x76
    ![] bcast_S_S16x3x76x76 (constant S_ .f32 0x3F800000#32)) (addf (broadcastInDim S16x3x76x76 ![] bcast_S_S16x3x76x76
    (constant S_ .f32 0x3F800000#32)) (Host.exp (Host.negf (shapeCast _ (extractStridedSlice S16x3x76x76x1 ![0, 0, 0, 0, 4]
    p slices_S16x3x76x76x85_S16x3x76x76x1_0_0_0_0_4) shapeCasts_S16x3x76x76x1_S16x3x76x76)))))

/-- The class scores. -/
def classes (p : Vec Ideal S16x3x76x76x85 .f32) : Vec Ideal S16x3x76x76x80 .f32 :=
  Host.divf (F := Ideal) (broadcastInDim S16x3x76x76x80 ![] bcast_S_S16x3x76x76x80 (constant S_ .f32 0x3F800000#32)) (addf
    (broadcastInDim S16x3x76x76x80 ![] bcast_S_S16x3x76x76x80 (constant S_ .f32 0x3F800000#32)) (Host.exp (Host.negf
    (extractStridedSlice S16x3x76x76x80 ![0, 0, 0, 0, 5] p slices_S16x3x76x76x85_S16x3x76x76x80_0_0_0_0_5))))

/-- Channel 0 decoded. -/
theorem centreX_apply (p : Vec Ideal S16x3x76x76x85 .f32) (b : Fin 16) (a : Fin 3) (gy gx : Fin 76) :
    centreX p (ix5 b a gy gx 0) = decode (p (ix5 b a gy gx 0)) a.val 0 gy.val gx.val := by
  unfold centreX
  pointwise
  rw [coord _ gx.isLt, lit_8]
  rfl

/-- Channel 1 decoded. -/
theorem centreY_apply (p : Vec Ideal S16x3x76x76x85 .f32) (b : Fin 16) (a : Fin 3) (gy gx : Fin 76) :
    centreY p (ix5 b a gy gx 0) = decode (p (ix5 b a gy gx 1)) a.val 1 gy.val gx.val := by
  unfold centreY
  pointwise
  rw [coord _ gy.isLt, lit_8]
  rfl

/-- Channel 2 decoded. -/
theorem width_apply (p : Vec Ideal S16x3x76x76x85 .f32) (b : Fin 16) (a : Fin 3) (gy gx : Fin 76) :
    width p (ix5 b a gy gx 0) = decode (p (ix5 b a gy gx 2)) a.val 2 gy.val gx.val := by
  unfold width
  pointwise
  have e : S3.rowMajor (ix1 a) = a := by fin_cases a <;> rfl
  rw [lit_8, mul_assoc]
  exact congrArg _ ((congrArg (fun k => Ideal.ofBits .f32 (lit0 k) * ((8 : ℝ) : EReal)) e).trans
    (widths a lit0 rfl rfl rfl))

/-- Channel 3 decoded. -/
theorem height_apply (p : Vec Ideal S16x3x76x76x85 .f32) (b : Fin 16) (a : Fin 3) (gy gx : Fin 76) :
    height p (ix5 b a gy gx 0) = decode (p (ix5 b a gy gx 3)) a.val 3 gy.val gx.val := by
  unfold height
  pointwise
  have e : S3.rowMajor (ix1 a) = a := by fin_cases a <;> rfl
  rw [lit_8, mul_assoc]
  exact congrArg _ ((congrArg (fun k => Ideal.ofBits .f32 (lit1 k) * ((8 : ℝ) : EReal)) e).trans
    (heights a lit1 rfl rfl rfl))

/-- Channel 4 decoded. -/
theorem confidence_apply (p : Vec Ideal S16x3x76x76x85 .f32) (b : Fin 16) (a : Fin 3) (gy gx : Fin 76) :
    confidence p (ix5 b a gy gx 0) = decode (p (ix5 b a gy gx 4)) a.val 4 gy.val gx.val := by
  unfold confidence
  pointwise
  rfl

/-- The channels from 5 decoded. -/
theorem classes_apply (p : Vec Ideal S16x3x76x76x85 .f32) (b : Fin 16) (a : Fin 3) (gy gx : Fin 76) (k : Fin 80) :
    classes p (ix5 b a gy gx k) = decode (p (ix5 b a gy gx ⟨5 + k.val, by omega⟩)) a.val (5 + k.val) gy.val gx.val := by
  unfold classes
  pointwise
  exact (decode_rest _ _ _ _ _ (by omega)).symm

/-! ### The pieces joined -/

/-- Six pieces joined along the channels and flattened over anchors, rows and columns. -/
def joined (p0 p1 p2 p3 p4 : Vec Ideal S16x3x76x76x1 .f32) (p5 : Vec Ideal S16x3x76x76x80 .f32) :
    Vec Ideal S16x17328x85 .f32 :=
  shapeCast _ ((concatenate S16x3x76x76x85 4 [⟨S16x3x76x76x1, p0⟩, ⟨S16x3x76x76x1, p1⟩, ⟨S16x3x76x76x1, p2⟩,
    ⟨S16x3x76x76x1, p3⟩, ⟨S16x3x76x76x1, p4⟩, ⟨S16x3x76x76x80, p5⟩]
    concatenates_S16x3x76x76x1_S16x3x76x76x1_S16x3x76x76x1_S16x3x76x76x1_S16x3x76x76x1_S16x3x76x76x80_S16x3x76x76x85_d4 :
      Vec Ideal S16x3x76x76x85 .f32)) shapeCasts_S16x3x76x76x85_S16x17328x85

/-- Channel 0 is the piece numbered 0. -/
theorem joined0 (p0 p1 p2 p3 p4 : Vec Ideal S16x3x76x76x1 .f32) (p5 : Vec Ideal S16x3x76x76x80 .f32)
    (b : Fin 16) (r : Fin 17328) :
    joined p0 p1 p2 p3 p4 p5 (ix3 b r 0)
      = p0 (ix5 b ⟨r.val / 5776, by omega⟩ ⟨r.val / 76 % 76, by omega⟩ ⟨r.val % 76, by omega⟩ 0) := by
  unfold joined
  pointwise

/-- Channel 1 is the piece numbered 1. -/
theorem joined1 (p0 p1 p2 p3 p4 : Vec Ideal S16x3x76x76x1 .f32) (p5 : Vec Ideal S16x3x76x76x80 .f32)
    (b : Fin 16) (r : Fin 17328) :
    joined p0 p1 p2 p3 p4 p5 (ix3 b r 1)
      = p1 (ix5 b ⟨r.val / 5776, by omega⟩ ⟨r.val / 76 % 76, by omega⟩ ⟨r.val % 76, by omega⟩ 0) := by
  unfold joined
  pointwise

/-- Channel 2 is the piece numbered 2. -/
theorem joined2 (p0 p1 p2 p3 p4 : Vec Ideal S16x3x76x76x1 .f32) (p5 : Vec Ideal S16x3x76x76x80 .f32)
    (b : Fin 16) (r : Fin 17328) :
    joined p0 p1 p2 p3 p4 p5 (ix3 b r 2)
      = p2 (ix5 b ⟨r.val / 5776, by omega⟩ ⟨r.val / 76 % 76, by omega⟩ ⟨r.val % 76, by omega⟩ 0) := by
  unfold joined
  pointwise

/-- Channel 3 is the piece numbered 3. -/
theorem joined3 (p0 p1 p2 p3 p4 : Vec Ideal S16x3x76x76x1 .f32) (p5 : Vec Ideal S16x3x76x76x80 .f32)
    (b : Fin 16) (r : Fin 17328) :
    joined p0 p1 p2 p3 p4 p5 (ix3 b r 3)
      = p3 (ix5 b ⟨r.val / 5776, by omega⟩ ⟨r.val / 76 % 76, by omega⟩ ⟨r.val % 76, by omega⟩ 0) := by
  unfold joined
  pointwise

/-- Channel 4 is the piece numbered 4. -/
theorem joined4 (p0 p1 p2 p3 p4 : Vec Ideal S16x3x76x76x1 .f32) (p5 : Vec Ideal S16x3x76x76x80 .f32)
    (b : Fin 16) (r : Fin 17328) :
    joined p0 p1 p2 p3 p4 p5 (ix3 b r 4)
      = p4 (ix5 b ⟨r.val / 5776, by omega⟩ ⟨r.val / 76 % 76, by omega⟩ ⟨r.val % 76, by omega⟩ 0) := by
  unfold joined
  pointwise

/-- The channels from 5 are the last piece. -/
theorem joined5 (p0 p1 p2 p3 p4 : Vec Ideal S16x3x76x76x1 .f32) (p5 : Vec Ideal S16x3x76x76x80 .f32)
    (b : Fin 16) (r : Fin 17328) (ch : Fin 85) (h : 5 ≤ ch.val) :
    joined p0 p1 p2 p3 p4 p5 (ix3 b r ch)
      = p5 (ix5 b ⟨r.val / 5776, by omega⟩ ⟨r.val / 76 % 76, by omega⟩ ⟨r.val % 76, by omega⟩ ⟨ch.val - 5, by omega⟩) := by
  unfold joined
  pointwise
  rw [dif_neg (by omega), dif_neg (by omega), dif_neg (by omega), dif_neg (by omega), dif_neg (by omega)]
  have e : (⟨ch.val - 1 - 1 - 1 - 1 - 1, by omega⟩ : Fin 80) = ⟨ch.val - 5, by omega⟩ := Fin.ext (by dsimp only; omega)
  exact congrArg (fun k => p5 (ix5 b _ _ _ k)) e

/-! ### The result -/

/-- The first result is the six pieces of the prediction joined. -/
theorem res_eq (m : (ℓ : Loc nD τ sig) → Buf (Elt Ideal) ℓ) (c : Dev nD) (x : Vec Ideal S16x255x76x76 .f32)
    (hx : m ((c.tc : Thread nD τ).loc main_arg0) = x) :
    Value.res_out0 m c = joined (centreX (pred x)) (centreY (pred x)) (width (pred x)) (height (pred x))
      (confidence (pred x)) (classes (pred x)) := by
  subst hx
  rfl

/-- Each entry of the joined pieces is the decoded entry of the raw prediction. -/
theorem joined_apply (x : Vec Ideal S16x255x76x76 .f32) (b : Fin 16) (r : Fin 17328) (ch : Fin 85) :
    joined (centreX (pred x)) (centreY (pred x)) (width (pred x)) (height (pred x)) (confidence (pred x))
        (classes (pred x)) (ix3 b r ch)
      = decode (x (ix4 b ⟨r.val / 5776 * 85 + ch.val, by omega⟩ ⟨r.val / 76 % 76, by omega⟩ ⟨r.val % 76, by omega⟩))
          (r.val / 5776) ch.val (r.val / 76 % 76) (r.val % 76) := by
  rw [← pred_apply x b ⟨r.val / 5776, by omega⟩]
  by_cases h5 : 5 ≤ ch.val
  · have e : (⟨5 + (ch.val - 5), by omega⟩ : Fin 85) = ch := Fin.ext (by dsimp only; omega)
    rw [joined5 _ _ _ _ _ _ _ _ _ h5, classes_apply]
    have e' : 5 + (ch.val - 5) = ch.val := by omega
    simp only [e']
  · rcases channels ch with rfl | rfl | rfl | rfl | h4
    · rw [joined0, centreX_apply]; rfl
    · rw [joined1, centreY_apply]; rfl
    · rw [joined2, width_apply]; rfl
    · rw [joined3, height_apply]; rfl
    · obtain rfl : ch = 4 := Fin.ext (by show ch.val = 4; omega)
      rw [joined4, confidence_apply]; rfl

end Cert.ReferenceIdeal.Read

end
-- ==== Proof.lean ====
/-
  The certificate: both programs run to the end with their arguments and counters as they should be, and over the extended
  reals the kernel's six results are the reference's.
-/
module

public import proofs.«01_k».proof.Defs
public import proofs.«01_k».proof.Proof.Gen.Kernel.Frame
public import proofs.«01_k».proof.Proof.Array
public import proofs.«01_k».proof.Proof.RefRead
public import Idealize.ShloMosaic.Lib.Quiescent

@[expose] public section

noncomputable section

namespace Cert.Proof

open Idealize.ShloMosaic Idealize.ShloMosaic.TcCoe Idealize.SL.Sem Cert.Yolo

/-- The reference runs to the end, leaves its arguments unchanged and every counter at zero. -/
theorem frame_reference : Cert.quiescent_ReferenceIdeal (hReferenceIdeal := Cert.ReferenceIdeal.Gen.facts) :=
  fun m ρ _ => (θ_run _ _ _).mono
    (fun r h => ⟨fun c => (h c).2.2.2.2.2.2, Idealize.ShloMosaic.sem_eq_zero_of_no_sems (by decide) r.2⟩)
    (Cert.ReferenceIdeal.Value.run (F := Ideal) m ρ)

/-- The kernel's decoded prediction is the reference's first result, from the same argument. -/
theorem first_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.Value.res_out0 m' c = Cert.KernelIdeal.Array.decoded m c := by
  rw [Cert.ReferenceIdeal.Read.res_eq m' c (Cert.KernelIdeal.Array.arg m c) h]
  funext j
  idx_vars j
  exact Cert.ReferenceIdeal.Read.joined_apply _ _ _ _

/-- Zero and zero is zero: the reference's sums of zeros are the zero. -/
theorem zeros_add : addf Cert.KernelIdeal.Array.zeros Cert.KernelIdeal.Array.zeros = Cert.KernelIdeal.Array.zeros := by
  funext j
  have e : Ideal.ofBits .f32 0x00000000#32 = 0 := by simp [Ideal.ofBits, Ideal.ieee]
  show Ideal.ofBits .f32 0x00000000#32 + Ideal.ofBits .f32 0x00000000#32 = Ideal.ofBits .f32 0x00000000#32
  rw [e, add_zero]

/-- Over the extended reals the six results of the kernel are the reference's. -/
theorem results : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Array.decoded m c, fun _ => Cert.KernelIdeal.Array.zeros,
    fun _ => Cert.KernelIdeal.Array.zeros, fun _ => Cert.KernelIdeal.Array.zeros, fun _ => Cert.KernelIdeal.Array.zeros,
    fun _ => Cert.KernelIdeal.Array.zeros, ?_, ?_⟩
  · exact (θ_run _ _ _).mono (fun r h c => ⟨(h c).1, (h c).2.1, (h c).2.1, (h c).2.1, (h c).2.1, (h c).2.1, (h c).2.2⟩)
      (Cert.KernelIdeal.Array.run m g)
  · refine (θ_run _ _ _).mono (fun r h c => ?_) (Cert.ReferenceIdeal.Value.run (F := Ideal) m' g')
    obtain ⟨h0, h1, h2, h3, h4, h5, ha⟩ := h c
    have z := zeros_add
    refine ⟨h0.trans (first_result m m' c (hargs c).1), h1.trans ?_, h2.trans z, h3.trans z, h4.trans z, h5, ha⟩
    show addf (addf (addf (addf (addf Cert.KernelIdeal.Array.zeros Cert.KernelIdeal.Array.zeros) Cert.KernelIdeal.Array.zeros)
      Cert.KernelIdeal.Array.zeros) (addf Cert.KernelIdeal.Array.zeros Cert.KernelIdeal.Array.zeros))
      Cert.KernelIdeal.Array.zeros = Cert.KernelIdeal.Array.zeros
    simp only [z]

/-- Every claim of the certificate. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    frame_reference, trivial, results⟩

end Cert.Proof

end
